-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x32x64 : Shape := ⟨3, ![8, 32, 64]⟩
abbrev S8x32 : Shape := ⟨2, ![8, 32]⟩
abbrev S8x32x64x768 : Shape := ⟨4, ![8, 32, 64, 768]⟩
abbrev S8x32x768 : Shape := ⟨3, ![8, 32, 768]⟩
abbrev S768x768 : Shape := ⟨2, ![768, 768]⟩
abbrev S_ : Shape := ⟨0, ![]⟩

class Facts : Prop where
  bcast_S_S8x32x64x768 : S_.BroadcastsInDim S8x32x64x768 (![] : Fin 0 → Fin S8x32x64x768.rank)
  bcast_S_S8x32x768 : S_.BroadcastsInDim S8x32x768 (![] : Fin 0 → Fin S8x32x768.rank)
  bcast_S_S768x768 : S_.BroadcastsInDim S768x768 (![] : Fin 0 → Fin S768x768.rank)

variable [Facts]

def fn {F : FTy → Type} [FloatOps F] (main_arg0 : IVec S8x32x64 32) (main_arg1 : IVec S8x32 32) (main_arg2 : FVec F S8x32x64x768 .f32) (main_arg3 : FVec F S8x32x768 .f32) (main_arg4 : FVec F S768x768 .f32) (main_arg5 : FVec F S768x768 .f32) (main_arg6 : FVec F S768x768 .f32) : IVec S8x32x64x768 1 × IVec S8x32x768 1 × IVec S768x768 1 × IVec S768x768 1 × IVec S768x768 1 :=
  let main_v0 : FVec F S8x32x64x768 .f32 := Host.absf main_arg2
  let main_cst : FVec F S_ .f32 := constant S_ .f32 0x7F800000#32
  let main_v1 : FVec F S8x32x64x768 .f32 := broadcastInDim S8x32x64x768 ![] bcast_S_S8x32x64x768 main_cst
  let main_v2 : IVec S8x32x64x768 1 := cmpf .olt main_v0 main_v1
  let main_v3 : FVec F S8x32x768 .f32 := Host.absf main_arg3
  let main_cst_0 : FVec F S_ .f32 := constant S_ .f32 0x7F800000#32
  let main_v4 : FVec F S8x32x768 .f32 := broadcastInDim S8x32x768 ![] bcast_S_S8x32x768 main_cst_0
  let main_v5 : IVec S8x32x768 1 := cmpf .olt main_v3 main_v4
  let main_v6 : FVec F S768x768 .f32 := Host.absf main_arg4
  let main_cst_1 : FVec F S_ .f32 := constant S_ .f32 0x7F800000#32
  let main_v7 : FVec F S768x768 .f32 := broadcastInDim S768x768 ![] bcast_S_S768x768 main_cst_1
  let main_v8 : IVec S768x768 1 := cmpf .olt main_v6 main_v7
  let main_v9 : FVec F S768x768 .f32 := Host.absf main_arg5
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_v12 : FVec F S768x768 .f32 := Host.absf main_arg6
  let main_cst_3 : FVec F S_ .f32 := constant S_ .f32 0x7F800000#32
  let main_v13 : FVec F S768x768 .f32 := broadcastInDim S768x768 ![] bcast_S_S768x768 main_cst_3
  let main_v14 : IVec S768x768 1 := cmpf .olt main_v12 main_v13
  (main_v2, main_v5, main_v8, main_v11, main_v14)
-- ==== Kernel.lean ====
abbrev S8x32x64 : Shape := ⟨3, ![8, 32, 64]⟩
abbrev S8x32 : Shape := ⟨2, ![8, 32]⟩
abbrev S8x32x64x768 : Shape := ⟨4, ![8, 32, 64, 768]⟩
abbrev S8x32x768 : Shape := ⟨3, ![8, 32, 768]⟩
abbrev S768x768 : Shape := ⟨2, ![768, 768]⟩
abbrev S8x2048x768 : Shape := ⟨3, ![8, 2048, 768]⟩
abbrev S8x1x32 : Shape := ⟨3, ![8, 1, 32]⟩
abbrev S1x8x1x1x1x32 : Shape := ⟨6, ![1, 8, 1, 1, 1, 32]⟩
abbrev S1x8x1x1x12x32 : Shape := ⟨6, ![1, 8, 1, 1, 12, 32]⟩
abbrev S8x1x384 : Shape := ⟨3, ![8, 1, 384]⟩
abbrev S8x32x1 : Shape := ⟨3, ![8, 32, 1]⟩
abbrev S1x1x384 : Shape := ⟨3, ![1, 1, 384]⟩
abbrev S1x16x1 : Shape := ⟨3, ![1, 16, 1]⟩
abbrev S1x1024x768 : Shape := ⟨3, ![1, 1024, 768]⟩
abbrev S1x32x768 : Shape := ⟨3, ![1, 32, 768]⟩
abbrev S768x384 : Shape := ⟨2, ![768, 384]⟩
abbrev S384x256 : Shape := ⟨2, ![384, 256]⟩
abbrev S768x128 : Shape := ⟨2, ![768, 128]⟩
abbrev S32x768 : Shape := ⟨2, ![32, 768]⟩
abbrev S768x32 : Shape := ⟨2, ![768, 32]⟩
abbrev S64x32 : Shape := ⟨2, ![64, 32]⟩
abbrev S32x64 : Shape := ⟨2, ![32, 64]⟩
abbrev S768x256 : Shape := ⟨2, ![768, 256]⟩
abbrev S256x128 : Shape := ⟨2, ![256, 128]⟩
abbrev S1024x768 : Shape := ⟨2, ![1024, 768]⟩
abbrev S1024x384 : Shape := ⟨2, ![1024, 384]⟩
abbrev S1x384 : Shape := ⟨2, ![1, 384]⟩
abbrev S16x1 : Shape := ⟨2, ![16, 1]⟩
abbrev S16x384 : Shape := ⟨2, ![16, 384]⟩
abbrev S16x1x384 : Shape := ⟨3, ![16, 1, 384]⟩
abbrev S16x64x384 : Shape := ⟨3, ![16, 64, 384]⟩
abbrev S1024x128 : Shape := ⟨2, ![1024, 128]⟩
abbrev S128x256 : Shape := ⟨2, ![128, 256]⟩
abbrev S1024x256 : Shape := ⟨2, ![1024, 256]⟩
abbrev S1x1024x256 : Shape := ⟨3, ![1, 1024, 256]⟩

abbrev nBuf : Space → Nat
  | .hbm => 21
  | .vmem => 16
  | .smem => 0
  | _ => 0

abbrev bufTy : (tb : Table) → Fin (tcTables nBuf tb) → BufTy
  | .hbm, ⟨0, _⟩ => ⟨S8x32x64, .i32⟩
  | .hbm, ⟨1, _⟩ => ⟨S8x32, .i32⟩
  | .hbm, ⟨2, _⟩ => ⟨S8x32x64x768, .f32⟩
  | .hbm, ⟨3, _⟩ => ⟨S8x32x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S8x2048x768, .f32⟩
  | .hbm, ⟨8, _⟩ => ⟨S8x1x32, .i32⟩
  | .hbm, ⟨9, _⟩ => ⟨S1x8x1x1x1x32, .i32⟩
  | .hbm, ⟨10, _⟩ => ⟨S1x8x1x1x12x32, .i32⟩
  | .hbm, ⟨11, _⟩ => ⟨S8x1x384, .i32⟩
  | .hbm, ⟨12, _⟩ => ⟨S8x32x1, .i32⟩
  | .hbm, ⟨13, _⟩ => ⟨S768x768, .f32⟩
  | .hbm, ⟨14, _⟩ => ⟨S768x768, .bf16⟩
  | .hbm, ⟨15, _⟩ => ⟨S768x768, .f32⟩
  | .hbm, ⟨16, _⟩ => ⟨S768x768, .bf16⟩
  | .hbm, ⟨17, _⟩ => ⟨S768x768, .f32⟩
  | .hbm, ⟨18, _⟩ => ⟨S768x768, .bf16⟩
  | .hbm, ⟨19, _⟩ => ⟨S8x2048x768, .f32⟩
  | .hbm, ⟨20, _⟩ => ⟨S8x32x64x768, .f32⟩
  | .local _ .vmem, ⟨0, _⟩ => ⟨S1x1x384, .i32⟩
  | .local _ .vmem, ⟨1, _⟩ => ⟨S1x1x384, .i32⟩
  | .local _ .vmem, ⟨2, _⟩ => ⟨S1x16x1, .i32⟩
  | .local _ .vmem, ⟨3, _⟩ => ⟨S1x16x1, .i32⟩
  | .local _ .vmem, ⟨4, _⟩ => ⟨S1x1024x768, .f32⟩
  | .local _ .vmem, ⟨5, _⟩ => ⟨S1x1024x768, .f32⟩
  | .local _ .vmem, ⟨6, _⟩ => ⟨S1x32x768, .f32⟩
  | .local _ .vmem, ⟨7, _⟩ => ⟨S1x32x768, .f32⟩
  | .local _ .vmem, ⟨8, _⟩ => ⟨S768x768, .bf16⟩
  | .local _ .vmem, ⟨9, _⟩ => ⟨S768x768, .bf16⟩
  | .local _ .vmem, ⟨10, _⟩ => ⟨S768x768, .bf16⟩
  | .local _ .vmem, ⟨11, _⟩ => ⟨S1x1024x768, .f32⟩
  | .local _ .vmem, ⟨12, _⟩ => ⟨S1x1024x768, .f32⟩
  | .local _ .vmem, ⟨13, _⟩ => ⟨S768x384, .bf16⟩
  | .local _ .vmem, ⟨14, _⟩ => ⟨S384x256, .bf16⟩
  | .local _ .vmem, ⟨15, _⟩ => ⟨S768x128, .bf16⟩
  | _, _ => ⟨S8x32x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x32x64 : Shape := ⟨3, ![8, 32, 64]⟩
abbrev S8x32 : Shape := ⟨2, ![8, 32]⟩
abbrev S8x32x64x768 : Shape := ⟨4, ![8, 32, 64, 768]⟩
abbrev S8x32x768 : Shape := ⟨3, ![8, 32, 768]⟩
abbrev S768x768 : Shape := ⟨2, ![768, 768]⟩
abbrev S8x32x12x64 : Shape := ⟨4, ![8, 32, 12, 64]⟩
abbrev S8x32x12x64x1 : Shape := ⟨5, ![8, 32, 12, 64, 1]⟩
abbrev S8x32x12x1x64 : Shape := ⟨5, ![8, 32, 12, 1, 64]⟩
abbrev S8x32x12x64x64 : Shape := ⟨5, ![8, 32, 12, 64, 64]⟩
abbrev S8x32x1 : Shape := ⟨3, ![8, 32, 1]⟩
abbrev S8x1x32 : Shape := ⟨3, ![8, 1, 32]⟩
abbrev S8x32x32 : Shape := ⟨3, ![8, 32, 32]⟩
abbrev S_ : Shape := ⟨0, ![]⟩
abbrev S32x32 : Shape := ⟨2, ![32, 32]⟩
abbrev S1x32x32 : Shape := ⟨3, ![1, 32, 32]⟩
abbrev S8x32x64x12x64 : Shape := ⟨5, ![8, 32, 64, 12, 64]⟩

abbrev nBuf : Space → Nat
  | .hbm => 46
  | .vmem => 0
  | .smem => 0
  | _ => 0

abbrev bufTy : (tb : Table) → Fin (tcTables nBuf tb) → BufTy
  | .hbm, ⟨0, _⟩ => ⟨S8x32x64, .i32⟩
  | .hbm, ⟨1, _⟩ => ⟨S8x32, .i32⟩
  | .hbm, ⟨2, _⟩ => ⟨S8x32x64x768, .f32⟩
  | .hbm, ⟨3, _⟩ => ⟨S8x32x768, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S8x32x768, .f32⟩
  | .hbm, ⟨9, _⟩ => ⟨S8x32x12x64, .f32⟩
  | .hbm, ⟨10, _⟩ => ⟨S768x768, .f32⟩
  | .hbm, ⟨11, _⟩ => ⟨S8x32x768, .f32⟩
  | .hbm, ⟨12, _⟩ => ⟨S8x32x12x64, .f32⟩
  | .hbm, ⟨13, _⟩ => ⟨S8x32x12x64x1, .f32⟩
  | .hbm, ⟨14, _⟩ => ⟨S8x32x12x1x64, .f32⟩
  | .hbm, ⟨15, _⟩ => ⟨S8x32x12x64x64, .f32⟩
  | .hbm, ⟨16, _⟩ => ⟨S8x32x12x64x64, .f32⟩
  | .hbm, ⟨17, _⟩ => ⟨S8x32x12x64x64, .f32⟩
  | .hbm, ⟨18, _⟩ => ⟨S8x32x1, .i32⟩
  | .hbm, ⟨19, _⟩ => ⟨S8x1x32, .i32⟩
  | .hbm, ⟨20, _⟩ => ⟨S8x32x32, .i32⟩
  | .hbm, ⟨21, _⟩ => ⟨S8x32x32, .i32⟩
  | .hbm, ⟨22, _⟩ => ⟨S8x32x32, .i1⟩
  | .hbm, ⟨23, _⟩ => ⟨S_, .i1⟩
  | .hbm, ⟨24, _⟩ => ⟨S32x32, .i1⟩
  | .hbm, ⟨25, _⟩ => ⟨S32x32, .i32⟩
  | .hbm, ⟨26, _⟩ => ⟨S_, .i32⟩
  | .hbm, ⟨27, _⟩ => ⟨S32x32, .i32⟩
  | .hbm, ⟨28, _⟩ => ⟨S32x32, .i32⟩
  | .hbm, ⟨29, _⟩ => ⟨S32x32, .i32⟩
  | .hbm, ⟨30, _⟩ => ⟨S32x32, .i1⟩
  | .hbm, ⟨31, _⟩ => ⟨S_, .i1⟩
  | .hbm, ⟨32, _⟩ => ⟨S32x32, .i1⟩
  | .hbm, ⟨33, _⟩ => ⟨S32x32, .i1⟩
  | .hbm, ⟨34, _⟩ => ⟨S1x32x32, .i1⟩
  | .hbm, ⟨35, _⟩ => ⟨S8x32x32, .i1⟩
  | .hbm, ⟨36, _⟩ => ⟨S8x32x32, .i1⟩
  | .hbm, ⟨37, _⟩ => ⟨S8x32x32, .f32⟩
  | .hbm, ⟨38, _⟩ => ⟨S8x32x12x64x64, .f32⟩
  | .hbm, ⟨39, _⟩ => ⟨S768x768, .f32⟩
  | .hbm, ⟨40, _⟩ => ⟨S8x32x64x768, .f32⟩
  | .hbm, ⟨41, _⟩ => ⟨S8x32x64x12x64, .f32⟩
  | .hbm, ⟨42, _⟩ => ⟨S8x32x12x64x64, .f32⟩
  | .hbm, ⟨43, _⟩ => ⟨S8x32x64x12x64, .f32⟩
  | .hbm, ⟨44, _⟩ => ⟨S8x32x64x768, .f32⟩
  | .hbm, ⟨45, _⟩ => ⟨S8x32x64x768, .f32⟩
  | _, _ => ⟨S8x32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.Pieces.lean ====
module

public import Idealize.ShloMosaic.Lib.Pipeline.ValueKit
public import Idealize.ShloMosaic.Lib.WritesUnit
public import Idealize.ShloMosaic.Lib.Pipeline.ReadBack
public import proofs.«01_k».proof.Proof.Gen.KernelIdeal.Frame

/-! What a buffer holds after a list of rectangular stores, read at one index, and one fact of arithmetic about
block diagonals. Nothing here depends on the numbers the kernel stores. -/

@[expose] public section

set_option maxRecDepth 16384

noncomputable section

namespace Cert.KernelState

open Idealize.ShloMosaic Idealize.ShloMosaic.TcCoe Idealize.SL.Sem Cert.KernelIdeal Cert.KernelIdeal.Gen

/-- The newest piece of a list decides where it reaches; elsewhere the rest of the list does. -/
theorem canon_cons_of {S : Shape} {e : EltTy} {Val : EltTy → Type} [∀ e, Nonempty (Val e)]
    {off size : Fin S.rank → ℕ} (inb : ∀ a, off a + size a ≤ S.size a)
    (w : (Rect.unit off size inb).shape.Idx → Val e) (L : List (View.Piece Val S e)) (y : S.Idx) (v : Val e)
    (hit : ∀ x : (Rect.unit off size inb).shape.Idx, (∀ a, (y a : ℕ) = off a + x a) → w x = v)
    (miss : (¬ ∀ a, off a ≤ (y a : ℕ) ∧ (y a : ℕ) < off a + size a) → View.canon L y = v) :
    View.canon ((⟨Rect.unit off size inb, w⟩ : View.Piece Val S e) :: L) y = v := by
  by_cases hm : y ∈ (Rect.unit off size inb).set
  · obtain ⟨x, rfl⟩ := (Rect.unit off size inb).exists_idx_of_mem hm
    refine (View.canon_cons_emb (Rect.unit off size inb) w L x).trans (hit x fun a => ?_)
    show off a + 1 * (x a : ℕ) = _
    omega
  · rw [View.canon_cons_of_not_mem _ _ hm]
    exact miss fun h => hm ((Rect.mem_set_unit ..).mpr h)

/-- The newest write decides where it reaches; elsewhere the buffer reads what the writes before it left. -/
theorem read_cons_of {sig : RefSig} {κ : Kind} {sp : Space} {S : Shape} {e : EltTy} {Val : EltTy → Type}
    (V : View sig κ sp S e) (f : V.ty.Contents Val) {off size : Fin S.rank → ℕ} (inb : ∀ a, off a + size a ≤ S.size a)
    (w : (Rect.unit off size inb).shape.Idx → Val e) (L : List (View.Piece Val S e)) (y : S.Idx) (v : Val e)
    (hit : ∀ x : (Rect.unit off size inb).shape.Idx, (∀ a, (y a : ℕ) = off a + x a) → w x = v)
    (miss : (¬ ∀ a, off a ≤ (y a : ℕ) ∧ (y a : ℕ) < off a + size a) → V.read Val (V.writes Val f L) y = v) :
    V.read Val (V.writes Val f ((⟨Rect.unit off size inb, w⟩ : View.Piece Val S e) :: L)) y = v := by
  rw [View.read_writes_cons_unit V f inb w L y rfl]
  split
  · next h => exact hit _ fun a => by rw [Rect.unitLocal_val]; have := h a; omega
  · next h => exact miss h

/-- An index on the diagonal of blocks that misses a diagonal block lies in other rows. -/
theorem off_block {o p a b n k : ℕ} (hn : 0 < n) (hk : 0 < k) (g : ¬ ((o ≤ a ∧ a < o + n) ∧ p ≤ b ∧ b < p + k)) (ho : o = n * (o / n)) (hp : p = k * (o / n % 4)) :
    a / n % 4 = b / k → a / n ≠ o / n := by
  intro hd he
  apply g
  have e1 := Nat.div_add_mod a n
  have e2 := Nat.mod_lt a hn
  have e3 := Nat.div_add_mod b k
  have e4 := Nat.mod_lt b hk
  rw [he] at hd e1
  rw [← hd] at e3
  omega

/-- A load from what a list of stores left is a load from the contents those stores determine. -/
theorem readCov_ld {sig : RefSig} {κ : Kind} {sp : Space} {S : Shape} {e : EltTy} {Val : EltTy → Type} [∀ e, Nonempty (Val e)]
    (V : View sig κ sp S e) (L : List (View.Piece Val S e)) (R : Rect S) :
    V.readCov L R.toLoadRect = View.ld (View.canon L) R :=
  View.readCov_eq_canon' V L R.toLoadRect

end Cert.KernelState
-- ==== Proof.Keys.lean ====
module

public import proofs.«01_k».proof.Proof.Pieces

/-! The key scratch after a point that fills it. -/

@[expose] public section

set_option maxRecDepth 16384

noncomputable section

namespace Cert.KernelState

open Idealize.ShloMosaic Idealize.ShloMosaic.TcCoe Idealize.SL.Sem Cert.KernelIdeal Cert.KernelIdeal.Gen

/-- The key scratch at an index: on the diagonal of 64 by 32 blocks (row block modulo four = column block) it
holds the transposed keys, elsewhere whatever was there before. -/
def keyAt (kT : FVec Ideal S768x32 .bf16) (old : EReal) (y : S768x128.Idx) : EReal :=
  if (y 0 : ℕ) / 64 % 4 = (y 1 : ℕ) / 32 then kT (ix2 (y 0) ⟨(y 1 : ℕ) % 32, Nat.mod_lt _ (by omega)⟩) else old

/-- On the block diagonal the key scratch holds the transposed keys. -/
theorem keyAt_hit (kT : FVec Ideal S768x32 .bf16) (old : EReal) (y : S768x128.Idx) (a : Fin 768) (b : Fin 32)
    (h0 : (a : ℕ) = y 0) (h1 : (b : ℕ) = (y 1 : ℕ) % 32) (hd : (y 0 : ℕ) / 64 % 4 = (y 1 : ℕ) / 32) :
    kT (ix2 a b) = keyAt kT old y := by
  unfold keyAt
  rw [if_pos hd]
  blk_ext

/-- Off the block diagonal the key scratch keeps its old entry. -/
theorem keyAt_miss (kT : FVec Ideal S768x32 .bf16) (old : EReal) (y : S768x128.Idx)
    (hd : ¬ (y 0 : ℕ) / 64 % 4 = (y 1 : ℕ) / 32) : old = keyAt kT old y := (if_neg hd).symm

variable (m : (ℓ : Loc nD τ sig) → Buf (Elt Ideal) ℓ)

/-- At a later batch's first point the key scratch takes the new keys on the diagonal and keeps the rest. -/
theorem key_C (c : Dev nD) (t : Fin cfg0.N) (h0 : ¬ t.val % 16 = 0) (h1 : t.val % 2 = 0) (y) :
    (outsAt0 m c t.val t.isLt).2.2.2 y = keyAt (k0_pay5 (iblk m c 3 t) (iblk m c 4 t))
      ((outsAt0 m c (t.val - 1) (Nat.lt_of_le_of_lt (Nat.sub_le _ _) t.isLt)).2.2.2 y) y := by
  rw [outsAt0_C m c t h0 h1]; frame_out
  have y0 : (y 0 : ℕ) < 768 := (y 0).isLt
  have y1 : (y 1 : ℕ) < 128 := (y 1).isLt
  iterate 12
    refine read_cons_of _ _ _ _ _ _ _ (fun x hx => ?_) fun g => ?_
    · open_payloads
      pointwise
      have x0 : (x 0 : ℕ) < 64 := (x 0).isLt
      have x1 : (x 1 : ℕ) < 32 := (x 1).isLt
      have e0 := hx 0
      have e1 := hx 1
      simp only [Matrix.cons_val_zero, Matrix.cons_val_one] at e0 e1
      exact keyAt_hit _ _ y _ _ (by dsimp only; omega) (by omega) (by omega)
    rw [Fin.forall_fin_two] at g
    replace g := off_block (by decide) (by decide) g rfl rfl
    simp only [Matrix.cons_val_zero, Matrix.cons_val_one, Nat.reduceDiv] at g
  refine (congrFun (Memref.IsWhole.read_unread _ _) y).trans (keyAt_miss _ _ y fun hd => ?_)
  omega

/-- At the very first point the key scratch takes the keys on the diagonal and zero elsewhere. -/
theorem key_A (c : Dev nD) (t : Fin cfg0.N) (h0 : t.val % 16 = 0) (h1 : t.val % 2 = 0) (y) :
    (outsAt0 m c t.val t.isLt).2.2.2 y = keyAt (k0_pay5 (iblk m c 3 t) (iblk m c 4 t)) 0 y := by
  rw [outsAt0_A m c t h0 h1]; frame_out
  have y0 : (y 0 : ℕ) < 768 := (y 0).isLt
  have y1 : (y 1 : ℕ) < 128 := (y 1).isLt
  iterate 12
    refine canon_cons_of _ _ _ _ _ (fun x hx => ?_) fun g => ?_
    · open_payloads
      pointwise
      have x0 : (x 0 : ℕ) < 64 := (x 0).isLt
      have x1 : (x 1 : ℕ) < 32 := (x 1).isLt
      have e0 := hx 0
      have e1 := hx 1
      simp only [Matrix.cons_val_zero, Matrix.cons_val_one] at e0 e1
      exact keyAt_hit _ _ y _ _ (by dsimp only; omega) (by omega) (by omega)
    rw [Fin.forall_fin_two] at g
    replace g := off_block (by decide) (by decide) g rfl rfl
    simp only [Matrix.cons_val_zero, Matrix.cons_val_one, Nat.reduceDiv] at g
  refine canon_cons_of _ _ _ _ _ (fun x hx => ?_) fun g => ?_
  · open_payloads
    pointwise
    exact (keyAt_miss _ _ y fun hd => by omega)
  · rw [Fin.forall_fin_two] at g
    simp only [Matrix.cons_val_zero, Matrix.cons_val_one] at g
    omega

end Cert.KernelState
-- ==== Proof.Vals.lean ====
module

public import proofs.«01_k».proof.Proof.Pieces

/-! The value scratch after a point that fills it. -/

@[expose] public section

set_option maxRecDepth 16384

noncomputable section

namespace Cert.KernelState

open Idealize.ShloMosaic Idealize.ShloMosaic.TcCoe Idealize.SL.Sem Cert.KernelIdeal Cert.KernelIdeal.Gen

/-- The value scratch at an index: on the diagonal of 32 by 64 blocks it holds the values, elsewhere whatever
was there before. -/
def valAt (v : FVec Ideal S32x768 .bf16) (old : EReal) (y : S384x256.Idx) : EReal :=
  if (y 0 : ℕ) / 32 % 4 = (y 1 : ℕ) / 64 then
    v (ix2 ⟨(y 0 : ℕ) % 32, Nat.mod_lt _ (by omega)⟩
      ⟨64 * ((y 0 : ℕ) / 32) + (y 1 : ℕ) % 64, by have : (y 0 : ℕ) < 384 := (y 0).isLt; omega⟩)
  else old

/-- On the block diagonal the value scratch holds the values. -/
theorem valAt_hit (v : FVec Ideal S32x768 .bf16) (old : EReal) (y : S384x256.Idx) (a : Fin 32) (b : Fin 768)
    (h0 : (a : ℕ) = (y 0 : ℕ) % 32) (h1 : (b : ℕ) = 64 * ((y 0 : ℕ) / 32) + (y 1 : ℕ) % 64)
    (hd : (y 0 : ℕ) / 32 % 4 = (y 1 : ℕ) / 64) : v (ix2 a b) = valAt v old y := by
  unfold valAt
  rw [if_pos hd]
  blk_ext

/-- Off the block diagonal the value scratch keeps its old entry. -/
theorem valAt_miss (v : FVec Ideal S32x768 .bf16) (old : EReal) (y : S384x256.Idx)
    (hd : ¬ (y 0 : ℕ) / 32 % 4 = (y 1 : ℕ) / 64) : old = valAt v old y := (if_neg hd).symm

variable (m : (ℓ : Loc nD τ sig) → Buf (Elt Ideal) ℓ)

/-- At a later batch's first point the value scratch takes the new values on the diagonal and keeps the rest. -/
theorem val_C (c : Dev nD) (t : Fin cfg0.N) (h0 : ¬ t.val % 16 = 0) (h1 : t.val % 2 = 0) (y) :
    (outsAt0 m c t.val t.isLt).2.2.1 y = valAt (k0_pay6 (iblk m c 3 t) (iblk m c 5 t))
      ((outsAt0 m c (t.val - 1) (Nat.lt_of_le_of_lt (Nat.sub_le _ _) t.isLt)).2.2.1 y) y := by
  rw [outsAt0_C m c t h0 h1]; frame_out
  have y0 : (y 0 : ℕ) < 384 := (y 0).isLt
  have y1 : (y 1 : ℕ) < 256 := (y 1).isLt
  iterate 12
    refine read_cons_of _ _ _ _ _ _ _ (fun x hx => ?_) fun g => ?_
    · open_payloads
      pointwise
      have x0 : (x 0 : ℕ) < 32 := (x 0).isLt
      have x1 : (x 1 : ℕ) < 64 := (x 1).isLt
      have e0 := hx 0
      have e1 := hx 1
      simp only [Matrix.cons_val_zero, Matrix.cons_val_one] at e0 e1
      exact valAt_hit _ _ y _ _ (by dsimp only; omega) (by dsimp only; omega) (by omega)
    rw [Fin.forall_fin_two] at g
    replace g := off_block (by decide) (by decide) g rfl rfl
    simp only [Matrix.cons_val_zero, Matrix.cons_val_one, Nat.reduceDiv] at g
  refine (congrFun (Memref.IsWhole.read_unread _ _) y).trans (valAt_miss _ _ y fun hd => ?_)
  omega

/-- At the very first point the value scratch takes the values on the diagonal and zero elsewhere. -/
theorem val_A (c : Dev nD) (t : Fin cfg0.N) (h0 : t.val % 16 = 0) (h1 : t.val % 2 = 0) (y) :
    (outsAt0 m c t.val t.isLt).2.2.1 y = valAt (k0_pay6 (iblk m c 3 t) (iblk m c 5 t)) 0 y := by
  rw [outsAt0_A m c t h0 h1]; frame_out
  have y0 : (y 0 : ℕ) < 384 := (y 0).isLt
  have y1 : (y 1 : ℕ) < 256 := (y 1).isLt
  iterate 12
    refine canon_cons_of _ _ _ _ _ (fun x hx => ?_) fun g => ?_
    · open_payloads
      pointwise
      have x0 : (x 0 : ℕ) < 32 := (x 0).isLt
      have x1 : (x 1 : ℕ) < 64 := (x 1).isLt
      have e0 := hx 0
      have e1 := hx 1
      simp only [Matrix.cons_val_zero, Matrix.cons_val_one] at e0 e1
      exact valAt_hit _ _ y _ _ (by dsimp only; omega) (by dsimp only; omega) (by omega)
    rw [Fin.forall_fin_two] at g
    replace g := off_block (by decide) (by decide) g rfl rfl
    simp only [Matrix.cons_val_zero, Matrix.cons_val_one, Nat.reduceDiv] at g
  refine canon_cons_of _ _ _ _ _ (fun x hx => ?_) fun g => ?_
  · open_payloads
    pointwise
    exact (valAt_miss _ _ y fun hd => by omega)
  · rw [Fin.forall_fin_two] at g
    simp only [Matrix.cons_val_zero, Matrix.cons_val_one] at g
    omega

end Cert.KernelState
-- ==== Proof.Mix.lean ====
module

public import proofs.«01_k».proof.Proof.Pieces

/-! The mixed weights (query weights times block-diagonal keys) after a point that fills them. -/

@[expose] public section

set_option maxRecDepth 16384

noncomputable section

namespace Cert.KernelState

open Idealize.ShloMosaic Idealize.ShloMosaic.TcCoe Idealize.SL.Sem Cert.KernelIdeal Cert.KernelIdeal.Gen

/-- The mixed weights at an index: within each group of four heads, the query weights times the key scratch. -/
def mixAt (wq : FVec Ideal S768x768 .bf16) (K : FVec Ideal S768x128 .bf16) (y : S768x384.Idx) : EReal :=
  ∑ k : Fin 256, wq (ix2 (y 0) ⟨256 * ((y 1 : ℕ) / 128) + k, by have : (y 1 : ℕ) < 384 := (y 1).isLt; omega⟩)
    * K (ix2 ⟨256 * ((y 1 : ℕ) / 128) + k, by have : (y 1 : ℕ) < 384 := (y 1).isLt; omega⟩ ⟨(y 1 : ℕ) % 128, Nat.mod_lt _ (by omega)⟩)

variable (m : (ℓ : Loc nD τ sig) → Buf (Elt Ideal) ℓ)

/-- At a later batch's first point the mixed weights are the product of the query weights and the key scratch. -/
theorem mix_C (c : Dev nD) (t : Fin cfg0.N) (h0 : ¬ t.val % 16 = 0) (h1 : t.val % 2 = 0) (y) :
    (outsAt0 m c t.val t.isLt).2.1 y = mixAt (iblk m c 6 t) (outsAt0 m c t.val t.isLt).2.2.2 y := by
  rw [outsAt0_C m c t h0 h1]; frame_out
  generalize View.read (Elt Idealize.ShloMosaic.Ideal) (View.whole cc0_scratch2) _ = K
  canon_tiles x h
  all_goals open_payloads; pointwise [mixAt]
  all_goals blk_point

/-- At the very first point too. -/
theorem mix_A (c : Dev nD) (t : Fin cfg0.N) (h0 : t.val % 16 = 0) (h1 : t.val % 2 = 0) (y) :
    (outsAt0 m c t.val t.isLt).2.1 y = mixAt (iblk m c 6 t) (outsAt0 m c t.val t.isLt).2.2.2 y := by
  rw [outsAt0_A m c t h0 h1]; frame_out
  simp only [readCov_ld]
  generalize View.canon (Val := Elt Idealize.ShloMosaic.Ideal) (s := S768x128) (e := .bf16) _ = K
  canon_tiles x h
  all_goals open_payloads; pointwise [mixAt]
  all_goals blk_point

end Cert.KernelState
-- ==== Proof.Out.lean ====
module

public import proofs.«01_k».proof.Proof.Pieces

/-! The output block of a point, in terms of the scratches. -/

@[expose] public section

set_option maxRecDepth 16384

noncomputable section

namespace Cert.KernelState

open Idealize.ShloMosaic Idealize.ShloMosaic.TcCoe Idealize.SL.Sem Cert.KernelIdeal Cert.KernelIdeal.Gen

/-- The output block at an index: the token entry plus the masked scores times the value scratch, within the group of
four heads the column belongs to. -/
def outAt (tok : FVec Ideal S1x1024x768 .f32) (sc : FVec Ideal S1024x384 .bf16) (vs : FVec Ideal S384x256 .bf16)
    (y : S1x1024x768.Idx) : EReal :=
  tok y + ∑ k : Fin 128, sc (ix2 (y 1) ⟨128 * ((y 2 : ℕ) / 256) + k, by have : (y 2 : ℕ) < 768 := (y 2).isLt; omega⟩)
    * vs (ix2 ⟨128 * ((y 2 : ℕ) / 256) + k, by have : (y 2 : ℕ) < 768 := (y 2).isLt; omega⟩ ⟨(y 2 : ℕ) % 256, Nat.mod_lt _ (by omega)⟩)

variable (m : (ℓ : Loc nD τ sig) → Buf (Elt Ideal) ℓ)

/-- The output block of a batch's first point, from the scratches that same point leaves. -/
theorem out_C (c : Dev nD) (t : Fin cfg0.N) (h0 : ¬ t.val % 16 = 0) (h1 : t.val % 2 = 0) (y) :
    (outsAt0 m c t.val t.isLt).1 y = outAt (iblk m c 2 t)
      (k0_pay39 (grid0.coords t) (iblk m c 2 t) (outsAt0 m c t.val t.isLt).2.1 (iblk m c 0 t) (iblk m c 1 t))
      (outsAt0 m c t.val t.isLt).2.2.1 y := by
  rw [outsAt0_C m c t h0 h1]; frame_out
  generalize View.read (Elt Idealize.ShloMosaic.Ideal) (View.whole cc0_scratch1) _ = K
  simp only [readCov_ld]
  rw [View.ld_unit_zero (by decide)]
  generalize View.canon (Val := Elt Idealize.ShloMosaic.Ideal) (s := S768x384) (e := .bf16) _ = W
  generalize k0_pay39 (F := Idealize.ShloMosaic.Ideal) _ _ _ _ _ = Q
  canon_tiles x h
  all_goals open_payloads; pointwise [outAt]
  all_goals blk_point

/-- The output block of the very first point, from the scratches that same point leaves. -/
theorem out_A (c : Dev nD) (t : Fin cfg0.N) (h0 : t.val % 16 = 0) (h1 : t.val % 2 = 0) (y) :
    (outsAt0 m c t.val t.isLt).1 y = outAt (iblk m c 2 t)
      (k0_pay39 (grid0.coords t) (iblk m c 2 t) (outsAt0 m c t.val t.isLt).2.1 (iblk m c 0 t) (iblk m c 1 t))
      (outsAt0 m c t.val t.isLt).2.2.1 y := by
  rw [outsAt0_A m c t h0 h1]; frame_out
  simp only [readCov_ld]
  rw [View.ld_unit_zero (by decide)]
  generalize View.canon (Val := Elt Idealize.ShloMosaic.Ideal) (s := S384x256) (e := .bf16) _ = K
  generalize View.canon (Val := Elt Idealize.ShloMosaic.Ideal) (s := S768x384) (e := .bf16) _ = W
  generalize k0_pay39 (F := Idealize.ShloMosaic.Ideal) _ _ _ _ _ = Q
  canon_tiles x h
  all_goals open_payloads; pointwise [outAt]
  all_goals blk_point

/-- A batch's second point leaves the three scratches as it found them. -/
theorem keep_B (c : Dev nD) (t : Fin cfg0.N) (h0 : ¬ t.val % 16 = 0) (h1 : ¬ t.val % 2 = 0) :
    (outsAt0 m c t.val t.isLt).2 = (outsAt0 m c (t.val - 1) (Nat.lt_of_le_of_lt (Nat.sub_le _ _) t.isLt)).2 := by
  rw [outsAt0_B m c t h0 h1]
  refine Prod.ext ?_ (Prod.ext ?_ ?_)
  · dsimp only
    unfold sout0_B_0
    exact rfl
  · dsimp only
    unfold sout0_B_1
    exact rfl
  · dsimp only
    unfold sout0_B_2
    exact rfl

/-- The output block of a batch's second point, from the scratches the point before left. -/
theorem out_B (c : Dev nD) (t : Fin cfg0.N) (h0 : ¬ t.val % 16 = 0) (h1 : ¬ t.val % 2 = 0) (y) :
    (outsAt0 m c t.val t.isLt).1 y = outAt (iblk m c 2 t)
      (k0_pay39 (grid0.coords t) (iblk m c 2 t)
        (outsAt0 m c (t.val - 1) (Nat.lt_of_le_of_lt (Nat.sub_le _ _) t.isLt)).2.1 (iblk m c 0 t) (iblk m c 1 t))
      (outsAt0 m c (t.val - 1) (Nat.lt_of_le_of_lt (Nat.sub_le _ _) t.isLt)).2.2.1 y := by
  rw [outsAt0_B m c t h0 h1]; frame_out
  simp only [read_unread_whole]
  generalize k0_pay39 (F := Idealize.ShloMosaic.Ideal) _ _ _ _ _ = Q
  canon_tiles x h
  all_goals open_payloads; pointwise [outAt]
  all_goals blk_point

/-- At every point the output block comes from the scratches as that point leaves them. -/
theorem out_at (c : Dev nD) (t : Fin cfg0.N) (y) :
    (outsAt0 m c t.val t.isLt).1 y = outAt (iblk m c 2 t)
      (k0_pay39 (grid0.coords t) (iblk m c 2 t) (outsAt0 m c t.val t.isLt).2.1 (iblk m c 0 t) (iblk m c 1 t))
      (outsAt0 m c t.val t.isLt).2.2.1 y := by
  by_cases h1 : t.val % 2 = 0
  · by_cases h0 : t.val % 16 = 0
    · exact out_A m c t h0 h1 y
    · exact out_C m c t h0 h1 y
  · have h0 : ¬ t.val % 16 = 0 := by omega
    rw [keep_B m c t h0 h1]
    exact out_B m c t h0 h1 y

end Cert.KernelState
-- ==== Proof.State.lean ====
module

public import proofs.«01_k».proof.Proof.Keys
public import proofs.«01_k».proof.Proof.Vals
public import proofs.«01_k».proof.Proof.Mix
public import proofs.«01_k».proof.Proof.Out

/-! What the three scratches hold at every point of the grid, by induction over the points. -/

@[expose] public section

set_option maxRecDepth 16384

noncomputable section

namespace Cert.KernelState

open Idealize.ShloMosaic Idealize.ShloMosaic.TcCoe Idealize.SL.Sem Cert.KernelIdeal Cert.KernelIdeal.Gen

/-- Where the window of the speaker row lies at a point. -/
theorem idx0 : ∀ t : Fin cfg0.N, win0_0.index t = ![t.val / 2, 0, 0] :=
  (by decide +kernel : ∀ t : Fin grid0.N, _)
/-- Where the window of the speaker column lies at a point. -/
theorem idx1 : ∀ t : Fin cfg0.N, win0_1.index t = ![t.val / 2, t.val % 2, 0] :=
  (by decide +kernel : ∀ t : Fin grid0.N, _)
/-- Where the window of the tokens lies at a point. -/
theorem idx2 : ∀ t : Fin cfg0.N, win0_2.index t = ![t.val / 2, t.val % 2, 0] :=
  (by decide +kernel : ∀ t : Fin grid0.N, _)
/-- Where the window of the units lies at a point. -/
theorem idx3 : ∀ t : Fin cfg0.N, win0_3.index t = ![t.val / 2, 0, 0] :=
  (by decide +kernel : ∀ t : Fin grid0.N, _)
/-- Where the window of the key weights lies at a point. -/
theorem idx4 : ∀ t : Fin cfg0.N, win0_4.index t = ![0, 0] :=
  (by decide +kernel : ∀ t : Fin grid0.N, _)
/-- Where the window of the value weights lies at a point. -/
theorem idx5 : ∀ t : Fin cfg0.N, win0_5.index t = ![0, 0] :=
  (by decide +kernel : ∀ t : Fin grid0.N, _)
/-- Where the window of the query weights lies at a point. -/
theorem idx6 : ∀ t : Fin cfg0.N, win0_6.index t = ![0, 0] :=
  (by decide +kernel : ∀ t : Fin grid0.N, _)
/-- Where the output window lies at a point. -/
theorem idx7 : ∀ t : Fin cfg0.N, win0_7.index t = ![t.val / 2, t.val % 2, 0] :=
  (by decide +kernel : ∀ t : Fin grid0.N, _)

variable (m : (ℓ : Loc nD τ sig) → Buf (Elt Ideal) ℓ)

/-- The units' block is one and the same at the points of one batch. -/
theorem same3 (c : Dev nD) (t s : Fin cfg0.N) (h : t.val / 2 = s.val / 2) : iblk m c 3 t = iblk m c 3 s := by
  funext y
  blk_ext [iblk, V, idx3 t, idx3 s]

/-- The key weights' block is one and the same at all points. -/
theorem same4 (c : Dev nD) (t s : Fin cfg0.N) : iblk m c 4 t = iblk m c 4 s := by
  funext y
  blk_ext [iblk, V, idx4 t, idx4 s]

/-- The value weights' block is one and the same at all points. -/
theorem same5 (c : Dev nD) (t s : Fin cfg0.N) : iblk m c 5 t = iblk m c 5 s := by
  funext y
  blk_ext [iblk, V, idx5 t, idx5 s]

/-- The query weights' block is one and the same at all points. -/
theorem same6 (c : Dev nD) (t s : Fin cfg0.N) : iblk m c 6 t = iblk m c 6 s := by
  funext y
  blk_ext [iblk, V, idx6 t, idx6 s]

/-- Filling the diagonal twice leaves what the later filling put there. -/
theorem keyAt_keyAt (kT kT' : FVec Ideal S768x32 .bf16) (y : S768x128.Idx) :
    keyAt kT (keyAt kT' 0 y) y = keyAt kT 0 y := by
  unfold keyAt
  split <;> rfl

/-- Filling the diagonal twice leaves what the later filling put there. -/
theorem valAt_valAt (v v' : FVec Ideal S32x768 .bf16) (y : S384x256.Idx) :
    valAt v (valAt v' 0 y) y = valAt v 0 y := by
  unfold valAt
  split <;> rfl

/-- After any point the scratches belong to that point's batch: the key scratch is the block diagonal of its transposed
keys with zeros elsewhere, the value scratch the block diagonal of its values, and the mixed weights are the query
weights times the key scratch. -/
theorem state (c : Dev nD) : ∀ (n : ℕ) (hn : n < cfg0.N),
    (∀ y, (outsAt0 m c n hn).2.2.2 y = keyAt (k0_pay5 (iblk m c 3 ⟨n, hn⟩) (iblk m c 4 ⟨n, hn⟩)) 0 y)
    ∧ (∀ y, (outsAt0 m c n hn).2.2.1 y = valAt (k0_pay6 (iblk m c 3 ⟨n, hn⟩) (iblk m c 5 ⟨n, hn⟩)) 0 y)
    ∧ (∀ y, (outsAt0 m c n hn).2.1 y = mixAt (iblk m c 6 ⟨n, hn⟩) (outsAt0 m c n hn).2.2.2 y) := by
  intro n
  induction n using Nat.strong_induction_on with
  | _ n ih =>
    intro hn
    have hN : n < 16 := hn
    by_cases h1 : n % 2 = 0
    · by_cases h0 : n % 16 = 0
      · exact ⟨key_A m c ⟨n, hn⟩ h0 h1, val_A m c ⟨n, hn⟩ h0 h1, mix_A m c ⟨n, hn⟩ h0 h1⟩
      · have hp := ih (n - 1) (by omega) (Nat.lt_of_le_of_lt (Nat.sub_le _ _) hn)
        refine ⟨fun y => ?_, fun y => ?_, mix_C m c ⟨n, hn⟩ h0 h1⟩
        · refine (key_C m c ⟨n, hn⟩ h0 h1 y).trans ?_
          rw [hp.1 y]
          exact keyAt_keyAt _ _ y
        · refine (val_C m c ⟨n, hn⟩ h0 h1 y).trans ?_
          rw [hp.2.1 y]
          exact valAt_valAt _ _ y
    · have hp := ih (n - 1) (by omega) (Nat.lt_of_le_of_lt (Nat.sub_le _ _) hn)
      have hk := keep_B m c ⟨n, hn⟩ (by dsimp only; omega) h1
      dsimp only at hk
      rw [hk, same3 m c ⟨n, hn⟩ ⟨n - 1, Nat.lt_of_le_of_lt (Nat.sub_le _ _) hn⟩ (by dsimp only; omega),
        same4 m c ⟨n, hn⟩ ⟨n - 1, Nat.lt_of_le_of_lt (Nat.sub_le _ _) hn⟩,
        same5 m c ⟨n, hn⟩ ⟨n - 1, Nat.lt_of_le_of_lt (Nat.sub_le _ _) hn⟩,
        same6 m c ⟨n, hn⟩ ⟨n - 1, Nat.lt_of_le_of_lt (Nat.sub_le _ _) hn⟩]
      exact hp

end Cert.KernelState
-- ==== Proof.Operands.lean ====
module

public import proofs.«01_k».proof.Proof.State

/-! What each input block of a point holds, in terms of the program's arguments. -/

@[expose] public section

set_option maxRecDepth 16384

noncomputable section

namespace Cert.KernelState

open Idealize.ShloMosaic Idealize.ShloMosaic.TcCoe Idealize.SL.Sem Cert.KernelIdeal Cert.KernelIdeal.Gen

variable (m : (ℓ : Loc nD τ sig) → Buf (Elt Ideal) ℓ)

/-- The contents of a buffer when the launch begins are what the host operations before it leave. -/
theorem entry (c : Dev nD) (b : Ref sig .tc) :
    V m c b = StableHlo.after hostOps0 (fun b => m (c, b)) (Proc.devRef .tc b) := rfl

/-- The key weights reach the launch transposed. -/
theorem wk_in (c : Dev nD) (a b : Fin 768) :
    V m c main_v7 (ix2 a b) = m ((c : Thread nD τ).loc main_arg4) (ix2 b a) := by
  rw [entry]
  entry_read
  pointwise

/-- The value weights reach the launch transposed. -/
theorem wv_in (c : Dev nD) (a b : Fin 768) :
    V m c main_v9 (ix2 a b) = m ((c : Thread nD τ).loc main_arg5) (ix2 b a) := by
  rw [entry]
  entry_read
  pointwise

/-- The query weights reach the launch transposed. -/
theorem wq_in (c : Dev nD) (a b : Fin 768) :
    V m c main_v11 (ix2 a b) = m ((c : Thread nD τ).loc main_arg6) (ix2 b a) := by
  rw [entry]
  entry_read
  pointwise

/-- The speaker row is the batch's speakers repeated once per head. -/
theorem spk_in (c : Dev nD) (b : Fin 8) (p : Fin 384) :
    V m c main_v4 (ix3 b 0 p) = m ((c : Thread nD τ).loc main_arg1) (ix2 b ⟨p % 32, by omega⟩) := by
  rw [entry]
  entry_read
  pointwise

/-- The speaker column is the batch's speakers. -/
theorem spkc_in (c : Dev nD) (b : Fin 8) (p : Fin 32) :
    V m c main_v5 (ix3 b p 0) = m ((c : Thread nD τ).loc main_arg1) (ix2 b p) := by
  rw [entry]
  entry_read
  pointwise

/-- The tokens reach the launch with a batch's units laid one after another. -/
theorem tok_in (c : Dev nD) (b : Fin 8) (p : Fin 2048) (n : Fin 768) :
    V m c main_v0 (ix3 b p n)
      = m ((c : Thread nD τ).loc main_arg2) (ix4 b ⟨p / 64, by omega⟩ ⟨p % 64, by omega⟩ n) := by
  rw [entry]
  entry_read
  pointwise

/-- The units' block of a point: the units of its batch. -/
theorem edu_blk (c : Dev nD) (t : Fin cfg0.N) (b : Fin 8) (hb : (b : ℕ) = t.val / 2) (u : Fin 32) (k : Fin 768) :
    iblk m c 3 t (ix3 0 u k) = m ((c : Thread nD τ).loc main_arg3) (ix3 b u k) := by
  blk_ext [iblk, V, idx3 t]

/-- The key weights' block of a point: the transposed key weights. -/
theorem wk_blk (c : Dev nD) (t : Fin cfg0.N) (a b : Fin 768) :
    iblk m c 4 t (ix2 a b) = m ((c : Thread nD τ).loc main_arg4) (ix2 b a) := by
  refine Eq.trans ?_ (wk_in m c a b)
  blk_ext [iblk, idx4 t]

/-- The value weights' block of a point: the transposed value weights. -/
theorem wv_blk (c : Dev nD) (t : Fin cfg0.N) (a b : Fin 768) :
    iblk m c 5 t (ix2 a b) = m ((c : Thread nD τ).loc main_arg5) (ix2 b a) := by
  refine Eq.trans ?_ (wv_in m c a b)
  blk_ext [iblk, idx5 t]

/-- The query weights' block of a point: the transposed query weights. -/
theorem wq_blk (c : Dev nD) (t : Fin cfg0.N) (a b : Fin 768) :
    iblk m c 6 t (ix2 a b) = m ((c : Thread nD τ).loc main_arg6) (ix2 b a) := by
  refine Eq.trans ?_ (wq_in m c a b)
  blk_ext [iblk, idx6 t]

/-- The speaker row's block of a point: the speakers of its batch, once per head. -/
theorem spk_blk (c : Dev nD) (t : Fin cfg0.N) (b : Fin 8) (hb : (b : ℕ) = t.val / 2) (p : Fin 384) :
    iblk m c 0 t (ix3 0 0 p) = m ((c : Thread nD τ).loc main_arg1) (ix2 b ⟨p % 32, by omega⟩) := by
  refine Eq.trans ?_ (spk_in m c b p)
  blk_ext [iblk, idx0 t]

/-- The speaker column's block of a point: sixteen of the speakers of its batch. -/
theorem spkc_blk (c : Dev nD) (t : Fin cfg0.N) (b : Fin 8) (hb : (b : ℕ) = t.val / 2) (p : Fin 16) (q : Fin 32)
    (hq : (q : ℕ) = 16 * (t.val % 2) + p) :
    iblk m c 1 t (ix3 0 p 0) = m ((c : Thread nD τ).loc main_arg1) (ix2 b q) := by
  refine Eq.trans ?_ (spkc_in m c b q)
  blk_ext [iblk, idx1 t]

/-- The tokens' block of a point: the tokens of sixteen units of its batch. -/
theorem tok_blk (c : Dev nD) (t : Fin cfg0.N) (b : Fin 8) (hb : (b : ℕ) = t.val / 2) (p : Fin 1024) (n : Fin 768)
    (q : Fin 32) (hq : (q : ℕ) = 16 * (t.val % 2) + p / 64) (l : Fin 64) (hl : (l : ℕ) = p % 64) :
    iblk m c 2 t (ix3 0 p n) = m ((c : Thread nD τ).loc main_arg2) (ix4 b q l n) := by
  refine Eq.trans ?_ ((tok_in m c b ⟨1024 * (t.val % 2) + p, by omega⟩ n).trans ?_)
  · blk_ext [iblk, idx2 t]
  · blk_ext

end Cert.KernelState
-- ==== Proof.Sums.lean ====
module

public import Idealize.ShloMosaic.Lib.Pipeline.ValueKit
public import proofs.«01_k».proof.Proof.Gen.KernelIdeal

/-! The sums both programs compute, written over the arguments: the projected keys and values, the causal
same-speaker mask, and the kernel's grouping of the whole result. -/

@[expose] public section

noncomputable section

namespace Cert.KernelState

open Idealize.ShloMosaic Idealize.ShloMosaic.TcCoe Cert.KernelIdeal

/-- A sum over an axis cut in equal blocks, all terms outside one block being zero, is the sum over that block. -/
theorem sum_block {N M : ℕ} (hM : 0 < M) (r : ℕ) (f : Fin N → EReal) (hr : M * r + M ≤ N)
    (h : ∀ c : Fin N, (c : ℕ) / M ≠ r → f c = 0) :
    ∑ c, f c = ∑ d : Fin M, f ⟨M * r + d, by omega⟩ := by
  symm
  refine Fintype.sum_of_injective (fun d : Fin M => (⟨M * r + d, by omega⟩ : Fin N)) (fun a b hab => ?_) _ f
    (fun c hc => h c fun he => hc ⟨⟨(c : ℕ) % M, Nat.mod_lt _ hM⟩, Fin.ext ?_⟩) fun _ => rfl
  · have := congrArg Fin.val hab
    simp only at this
    exact Fin.ext (by omega)
  · have := Nat.div_add_mod (c : ℕ) M
    rw [he] at this
    exact this

/-- One entry of the projected keys: unit `u` of batch `b` against row `j` of the key weights. -/
def keyE (edu : FVec Ideal S8x32x768 .f32) (wk : FVec Ideal S768x768 .f32) (b : Fin 8) (u : Fin 32) (j : Fin 768) :
    EReal :=
  ∑ k : Fin 768, wk (ix2 j k) * edu (ix3 b u k)

/-- One entry of the projected values: unit `u` of batch `b` against row `j` of the value weights. -/
def valE (edu : FVec Ideal S8x32x768 .f32) (wv : FVec Ideal S768x768 .f32) (b : Fin 8) (u : Fin 32) (j : Fin 768) :
    EReal :=
  ∑ k : Fin 768, edu (ix3 b u k) * wv (ix2 j k)

/-- Unit `q` attends to unit `u` when both have one speaker and `u` does not come after `q`. -/
def mask (spk : IVec S8x32 32) (b : Fin 8) (q u : Fin 32) : EReal :=
  if spk (ix2 b q) = spk (ix2 b u) ∧ (u : ℕ) ≤ q then 1 else 0

/-- The row of a weight matrix at place `d` of the head that column `n` belongs to. -/
def headRow (n : Fin 768) (d : Fin 64) : Fin 768 := ⟨64 * ((n : ℕ) / 64) + d, by omega⟩

/-- One entry of the kernel's result, grouped as the kernel computes it: the token plus, over the units, the token row
times the mixed weights, masked, times the value. -/
def kernelE (spk : IVec S8x32 32) (tok : FVec Ideal S8x32x64x768 .f32) (edu : FVec Ideal S8x32x768 .f32)
    (wk wv wq : FVec Ideal S768x768 .f32) (b : Fin 8) (q : Fin 32) (l : Fin 64) (n : Fin 768) : EReal :=
  tok (ix4 b q l n) + ∑ u : Fin 32,
    ((∑ k : Fin 768, tok (ix4 b q l k) * ∑ d : Fin 64, wq (ix2 (headRow n d) k) * keyE edu wk b u (headRow n d))
      * mask spk b q u) * valE edu wv b u n

end Cert.KernelState
-- ==== Proof.Block.lean ====
module

public import proofs.«01_k».proof.Proof.Operands
public import proofs.«01_k».proof.Proof.Sums

/-! One output block in terms of the program's arguments. -/

@[expose] public section

set_option maxRecDepth 16384

noncomputable section

namespace Cert.KernelState

open Idealize.ShloMosaic Idealize.ShloMosaic.TcCoe Idealize.SL.Sem Cert.KernelIdeal Cert.KernelIdeal.Gen

variable (m : (ℓ : Loc nD τ sig) → Buf (Elt Ideal) ℓ)

/-- The speakers, as the launch finds them. -/
abbrev spkA (c : Dev nD) : IVec S8x32 32 := m ((c : Thread nD τ).loc main_arg1)
/-- The tokens, as the launch finds them. -/
abbrev tokA (c : Dev nD) : FVec Ideal S8x32x64x768 .f32 := m ((c : Thread nD τ).loc main_arg2)
/-- The units, as the launch finds them. -/
abbrev eduA (c : Dev nD) : FVec Ideal S8x32x768 .f32 := m ((c : Thread nD τ).loc main_arg3)
/-- The key weights, as the launch finds them. -/
abbrev wkA (c : Dev nD) : FVec Ideal S768x768 .f32 := m ((c : Thread nD τ).loc main_arg4)
/-- The value weights, as the launch finds them. -/
abbrev wvA (c : Dev nD) : FVec Ideal S768x768 .f32 := m ((c : Thread nD τ).loc main_arg5)
/-- The query weights, as the launch finds them. -/
abbrev wqA (c : Dev nD) : FVec Ideal S768x768 .f32 := m ((c : Thread nD τ).loc main_arg6)

/-- Small numbers compare as words the way they compare as numbers. -/
theorem sle_small : ∀ a b : Fin 32,
    IntOp.cmpi CmpIPredicate.sle (BitVec.ofNat 32 a) (BitVec.ofNat 32 b) = BitVec.ofBool (decide ((a : ℕ) ≤ b)) := by
  decide +kernel

/-- The kernel's mask word, turned to a number, is one where both conditions hold and zero elsewhere. -/
theorem mask_word (x y : BitVec 32) (i : Fin 2) (a : Fin 16) (s : Fin 384) :
    (FloatOps.sitofp (F := Ideal) .f32
      (BitVec.setWidth 32
        (IntOp.andi (IntOp.cmpi CmpIPredicate.eq x y)
          (IntOp.cmpi CmpIPredicate.sle (IntOp.andi (BitVec.ofNat 32 s) 31#32)
            (IntOp.addi (BitVec.ofNat 32 a) (Scalar.muli (BitVec.ofNat 32 i) 16#32))))) : EReal)
      = if x = y ∧ (s : ℕ) % 32 ≤ 16 * (i : ℕ) + a then 1 else 0 := by
  have hs : IntOp.andi (BitVec.ofNat 32 s) 31#32 = BitVec.ofNat 32 ((s : ℕ) % 32) := by
    revert s; decide +kernel
  have hq : IntOp.addi (BitVec.ofNat 32 a) (Scalar.muli (BitVec.ofNat 32 i) 16#32)
      = BitVec.ofNat 32 (16 * (i : ℕ) + a) := by
    revert i a; decide +kernel
  have one : (FloatOps.sitofp (F := Ideal) .f32 (1#32) : EReal) = 1 := by
    show ((((1#32 : BitVec 32).toInt : ℤ) : ℝ) : EReal) = 1
    simp
  have zero : (FloatOps.sitofp (F := Ideal) .f32 (0#32) : EReal) = 0 := by
    show ((((0#32 : BitVec 32).toInt : ℤ) : ℝ) : EReal) = 0
    simp
  rw [hs, hq, sle_small ⟨(s : ℕ) % 32, by omega⟩ ⟨16 * (i : ℕ) + a, by omega⟩]
  by_cases h1 : x = y
  · by_cases h2 : (s : ℕ) % 32 ≤ 16 * (i : ℕ) + a
    · rw [if_pos ⟨h1, h2⟩]
      simp only [h1, h2, IntOp.cmpi, IntOp.andi, decide_true, beq_self_eq_true]
      exact one
    · rw [if_neg fun h => h2 h.2]
      simp only [h1, h2, IntOp.cmpi, IntOp.andi, decide_false, beq_self_eq_true]
      exact zero
  · rw [if_neg fun h => h1 h.1]
    have hb : (x == y) = false := beq_eq_false_iff_ne.mpr h1
    simp only [hb, IntOp.cmpi, IntOp.andi]
    by_cases h2 : (s : ℕ) % 32 ≤ 16 * (i : ℕ) + a
    · simp only [h2, decide_true]
      exact zero
    · simp only [h2, decide_false]
      exact zero

/-- The transposed keys of a point's batch. -/
theorem key_blk (c : Dev nD) (t : Fin cfg0.N) (b : Fin 8) (hb : (b : ℕ) = t.val / 2) (a : Fin 768) (u : Fin 32) :
    k0_pay5 (iblk m c 3 t) (iblk m c 4 t) (ix2 a u)
      = keyE (eduA m c) (wkA m c) b u a := by
  pointwise [k0_pay5, k0_pay4, keyE]
  exact Finset.sum_congr rfl fun k _ => by rw [wk_blk, edu_blk m c t b hb]

/-- The values of a point's batch. -/
theorem val_blk (c : Dev nD) (t : Fin cfg0.N) (b : Fin 8) (hb : (b : ℕ) = t.val / 2) (u : Fin 32) (a : Fin 768) :
    k0_pay6 (iblk m c 3 t) (iblk m c 5 t) (ix2 u a)
      = valE (eduA m c) (wvA m c) b u a := by
  pointwise [k0_pay6, k0_pay4, valE]
  exact Finset.sum_congr rfl fun k _ => by rw [wv_blk, edu_blk m c t b hb]

/-- The mixed weights of a point: the query weights of one head against the keys of that head. -/
theorem mix_blk (c : Dev nD) (t : Fin cfg0.N) (b : Fin 8) (hb : (b : ℕ) = t.val / 2) (k : Fin 768) (n : Fin 768)
    (u : Fin 32) (s : Fin 384) (hs : (s : ℕ) = 32 * ((n : ℕ) / 64) + u) :
    (outsAt0 m c t.val t.isLt).2.1 (ix2 k s)
      = ∑ d : Fin 64, wqA m c (ix2 (headRow n d) k)
        * keyE (eduA m c) (wkA m c) b u (headRow n d) := by
  obtain ⟨hk, -, hw⟩ := state m c t.val t.isLt
  rw [hw]
  unfold mixAt
  refine (sum_block (M := 64) (by decide) ((n : ℕ) / 64 % 4) _ (by omega) fun q hq => ?_).trans
    (Finset.sum_congr rfl fun d _ => ?_)
  · rw [hk]
    unfold keyAt
    rw [if_neg, mul_zero]
    dsimp only [ix2]
    omega
  · rw [hk]
    unfold keyAt
    rw [if_pos]
    · have e1 : (⟨256 * (((ix2 k s : S768x384.Idx) 1 : ℕ) / 128) + (64 * ((n : ℕ) / 64 % 4) + d), by dsimp only [ix2]; omega⟩ : Fin 768) = headRow n d :=
        Fin.ext (by dsimp only [ix2, headRow]; omega)
      have e2 : (⟨((ix2 k s : S768x384.Idx) 1 : ℕ) % 128 % 32, by omega⟩ : Fin 32) = u := Fin.ext (by dsimp only [ix2]; omega)
      refine congrArg₂ (· * ·) ((wq_blk m c t _ _).trans ?_) ((key_blk m c t b hb _ _).trans ?_)
      · rw [e1]; rfl
      · exact congrArg₂ (keyE (eduA m c) (wkA m c) b) e2 e1
    · dsimp only [ix2]
      omega

/-- The second grid coordinate of a point. -/
theorem coord : ∀ t : Fin cfg0.N, ((grid0.coords t 1 : Fin _) : ℕ) = t.val % 2 :=
  (by decide +kernel : ∀ t : Fin grid0.N, _)

/-- The masked scores of a point. -/
theorem score_blk (c : Dev nD) (t : Fin cfg0.N) (b : Fin 8) (hb : (b : ℕ) = t.val / 2) (n : Fin 768)
    (p : Fin 1024) (q : Fin 32) (hq : (q : ℕ) = 16 * (t.val % 2) + p / 64) (l : Fin 64) (hl : (l : ℕ) = p % 64)
    (u : Fin 32) (s : Fin 384) (hs : (s : ℕ) = 32 * ((n : ℕ) / 64) + u) :
    k0_pay39 (grid0.coords t) (iblk m c 2 t) (outsAt0 m c t.val t.isLt).2.1 (iblk m c 0 t) (iblk m c 1 t) (ix2 p s)
      = (∑ k : Fin 768, tokA m c (ix4 b q l k) * ∑ d : Fin 64, wqA m c (ix2 (headRow n d) k)
          * keyE (eduA m c) (wkA m c) b u (headRow n d)) * mask (spkA m c) b q u := by
  pointwise [k0_pay39, k0_pay38]
  have ht : ((grid0.coords t 1 : Fin _) : ℕ) = t.val % 2 := coord t
  refine congrArg₂ (· * ·) (Finset.sum_congr rfl fun k _ => ?_) ?_
  · rw [tok_blk m c t b hb p k q hq l hl, mix_blk m c t b hb k n u s hs]
  · refine (mask_word _ _ (grid0.coords t 1) ⟨p / 64, by omega⟩ s).trans ?_
    rw [spk_blk m c t b hb, spkc_blk m c t b hb ⟨p / 64, by omega⟩ q hq]
    have e : (⟨(s : ℕ) % 32, by omega⟩ : Fin 32) = u := Fin.ext (by dsimp only; omega)
    rw [e]
    refine if_congr (and_congr Iff.rfl ?_) rfl rfl
    dsimp only
    omega

/-- The output block of a point. -/
theorem out_blk (c : Dev nD) (t : Fin cfg0.N) (b : Fin 8) (hb : (b : ℕ) = t.val / 2) (n : Fin 768)
    (p : Fin 1024) (q : Fin 32) (hq : (q : ℕ) = 16 * (t.val % 2) + p / 64) (l : Fin 64) (hl : (l : ℕ) = p % 64) :
    (outsAt0 m c t.val t.isLt).1 (ix3 0 p n)
      = kernelE (spkA m c) (tokA m c) (eduA m c) (wkA m c) (wvA m c) (wqA m c) b q l n := by
  rw [out_at]
  obtain ⟨-, hv, -⟩ := state m c t.val t.isLt
  unfold outAt kernelE
  refine congrArg₂ (· + ·) (tok_blk m c t b hb p n q hq l hl) ?_
  refine (sum_block (M := 32) (by decide) ((n : ℕ) / 64 % 4) _ (by omega) fun r hr => ?_).trans
    (Finset.sum_congr rfl fun u _ => ?_)
  · rw [hv]
    unfold valAt
    rw [if_neg, mul_zero]
    dsimp only [ix2, ix3]
    omega
  · rw [hv]
    unfold valAt
    rw [if_pos]
    · refine congrArg₂ (· * ·) (score_blk m c t b hb n p q hq l hl u _ ?_) ((val_blk m c t b hb _ _).trans ?_)
      · dsimp only [ix2, ix3]
        omega
      · congr 1
        · exact Fin.ext (by dsimp only [ix2, ix3]; omega)
        · exact Fin.ext (by dsimp only [ix2, ix3]; omega)
    · dsimp only [ix2, ix3]
      omega

end Cert.KernelState
-- ==== Proof.Pre.lean ====
module

public import proofs.«01_k».proof.Defs
public import proofs.«01_k».proof.Proof.Block

/-! What the precondition says: no float argument holds an infinity. -/

@[expose] public section

set_option maxRecDepth 16384

noncomputable section

namespace Cert.Finite

open Idealize.ShloMosaic Idealize.ShloMosaic.TcCoe Idealize.SL.Sem
open Cert.KernelState (tokA eduA wkA wvA wqA)

/-- The bit pattern that the precondition compares with denotes the greatest extended real. -/
theorem top_word : Idealize.ShloMosaic.Ideal.ofBits .f32 0x7F800000#32 = ⊤ := by
  simp [Idealize.ShloMosaic.Ideal.ofBits, Idealize.ShloMosaic.Ideal.ieee]

/-- A number whose absolute value compares below the greatest extended real is finite. -/
theorem finite_of_bit (x : EReal) (h : Idealize.ShloMosaic.Ideal.cmp .olt (max x (-x)) ⊤ = 1#1) : x ≠ ⊤ ∧ x ≠ ⊥ := by
  constructor <;> rintro rfl <;> simp [Idealize.ShloMosaic.Ideal.cmp] at h

/-- If the comparison of an array's absolute values with infinity is one everywhere, every entry is finite. -/
theorem finite_of {s : Shape} (x : FVec Ideal s .f32) (hb : Cert.Pre_finite.S_.BroadcastsInDim s ![])
    (h : cmpf .olt (Host.absf x) (broadcastInDim s ![] hb (constant (F := Ideal) Cert.Pre_finite.S_ .f32 0x7F800000#32)) = fun _ => 1#1)
    (i : s.Idx) : x i ≠ ⊤ ∧ x i ≠ ⊥ := by
  refine finite_of_bit (x i) ?_
  have hi : Idealize.ShloMosaic.Ideal.cmp .olt (max (x i) (-(x i))) (Idealize.ShloMosaic.Ideal.ofBits .f32 0x7F800000#32) = 1#1 :=
    congrFun h i
  rwa [top_word] at hi

variable [Cert.Pre_finite.Facts]
variable (m : (ℓ : Loc Cert.KernelIdeal.nD Cert.KernelIdeal.τ Cert.KernelIdeal.sig) → Buf (Elt Ideal) ℓ)

/-- Under the precondition the tokens, the unit embeddings and the three weight matrices are finite everywhere. -/
theorem args_finite (h : Cert.Pre_KernelIdeal_finite m) (c : Dev Cert.KernelIdeal.nD) :
    (∀ i, tokA m c i ≠ ⊤ ∧ tokA m c i ≠ ⊥) ∧ (∀ i, eduA m c i ≠ ⊤ ∧ eduA m c i ≠ ⊥)
      ∧ (∀ i, wkA m c i ≠ ⊤ ∧ wkA m c i ≠ ⊥) ∧ (∀ i, wvA m c i ≠ ⊤ ∧ wvA m c i ≠ ⊥)
      ∧ (∀ i, wqA m c i ≠ ⊤ ∧ wqA m c i ≠ ⊥) := by
  obtain ⟨h2, h3, h4, h5, h6⟩ := h c
  exact ⟨finite_of _ _ h2, finite_of _ _ h3, finite_of _ _ h4, finite_of _ _ h5, finite_of _ _ h6⟩

end Cert.Finite
-- ==== Proof.Ref.lean ====
module

public import proofs.«01_k».proof.Proof.Sums
public import proofs.«01_k».proof.Proof.Gen.ReferenceIdeal.Read

/-! The reference's result at an index. -/

@[expose] public section

set_option maxRecDepth 16384

noncomputable section

namespace Cert.ReferenceState

open Idealize.ShloMosaic Idealize.ShloMosaic.TcCoe Cert.ReferenceIdeal Cert.ReferenceIdeal.Gen
  Cert.ReferenceIdeal.Read
open Cert.KernelState (keyE valE mask headRow)

variable (spk : IVec S8x32 32) (tok : FVec Ideal S8x32x64x768 .f32) (edu : FVec Ideal S8x32x768 .f32)
    (wk wv wq : FVec Ideal S768x768 .f32)

/-- One entry of the reference's result: the token plus, over the places of one head, the query times the masked sum
of the outer products of keys and values. -/
def refE (b : Fin 8) (q : Fin 32) (l : Fin 64) (n : Fin 768) : EReal :=
  tok (ix4 b q l n) + ∑ d : Fin 64,
    (∑ u : Fin 32, mask spk b q u * (keyE edu wk b u (headRow n d) * valE edu wv b u n))
      * ∑ k : Fin 768, tok (ix4 b q l k) * wq (ix2 (headRow n d) k)

/-- The reference's keys. -/
theorem ref_key (b : Fin 8) (u : Fin 32) (h : Fin 12) (d : Fin 64) (j : Fin 768) (hj : (j : ℕ) = 64 * h + d) :
    val_main_v2 (F := Ideal) edu wk (ix4 b u h d) = keyE edu wk b u j := by
  rw [val_main_v2_apply, val_main_v1_apply]
  refine Finset.sum_congr rfl fun k _ => ?_
  rw [val_main_v0_apply, mul_comm]
  refine congrArg₂ (· * ·) ?_ ?_
  · blk_ext
  · blk_ext

/-- The reference's values. -/
theorem ref_val (b : Fin 8) (u : Fin 32) (h : Fin 12) (d : Fin 64) (j : Fin 768) (hj : (j : ℕ) = 64 * h + d) :
    val_main_v5 (F := Ideal) edu wv (ix4 b u h d) = valE edu wv b u j := by
  rw [val_main_v5_apply, val_main_v4_apply]
  refine Finset.sum_congr rfl fun k _ => ?_
  rw [val_main_v3_apply]
  refine congrArg₂ (· * ·) ?_ ?_
  · blk_ext
  · blk_ext

/-- The reference's queries. -/
theorem ref_query (b : Fin 8) (q : Fin 32) (l : Fin 64) (h : Fin 12) (d : Fin 64) (j : Fin 768)
    (hj : (j : ℕ) = 64 * h + d) :
    val_main_v25 (F := Ideal) tok wq (ix5 b q l h d) = ∑ k : Fin 768, tok (ix4 b q l k) * wq (ix2 j k) := by
  rw [val_main_v25_apply, val_main_v24_apply]
  refine Finset.sum_congr rfl fun k _ => ?_
  rw [val_main_v23_apply]
  refine congrArg₂ (· * ·) ?_ ?_
  · blk_ext
  · blk_ext

/-- The reference's outer products. -/
theorem ref_outer (b : Fin 8) (u : Fin 32) (h : Fin 12) (d e : Fin 64) (j n : Fin 768) (hj : (j : ℕ) = 64 * h + d)
    (hn : (n : ℕ) = 64 * h + e) :
    val_main_v10 (F := Ideal) edu wk wv (ix5 b u h d e) = keyE edu wk b u j * valE edu wv b u n := by
  rw [val_main_v10_apply, val_main_v8_apply, val_main_v9_apply, val_main_v6_apply, val_main_v7_apply]
  refine congrArg₂ (· * ·) ((congrArg _ ?_).trans (ref_key edu wk b u h d j hj))
    ((congrArg _ ?_).trans (ref_val edu wv b u h e n hn))
  · blk_ext
  · blk_ext

/-- The reference's causal triangle compares small numbers as words the way they compare as numbers. -/
theorem sge_small : ∀ a b : Fin 32,
    Scalar.select (IntOp.cmpi CmpIPredicate.sge (IntOp.addi (BitVec.ofNat 32 a) 0#32) (BitVec.ofNat 32 b)) 1#1 0#1
      = BitVec.ofBool (decide ((b : ℕ) ≤ a)) := by
  decide +kernel

/-- The reference's mask. -/
theorem ref_mask (b : Fin 8) (q u : Fin 32) :
    val_main_v21 (F := Ideal) spk (ix3 b q u) = mask spk b q u := by
  rw [val_main_v21_apply, val_main_v20_apply, val_main_v15_apply, val_main_v13_apply, val_main_v14_apply,
    val_main_v11_apply, val_main_v12_apply, val_main_v19_apply, val_main_v18_apply, val_main_v17_apply,
    val_main_call0_v4_apply, val_main_call0_v2_apply, val_main_call0_v0_apply, val_main_call0_v1_apply,
    val_main_call0_v3_apply, val_main_call0_c_apply, val_main_v16_apply, val_main_c_apply,
    val_main_call0_v5_apply, val_main_call0_c_0_apply]
  have e1 : idx_main_v11 (idx_main_v13 (ix3 b q u)) = ix2 b q := by blk_ext
  have e2 : idx_main_v12 (idx_main_v14 (ix3 b q u)) = ix2 b u := by blk_ext
  rw [e1, e2]
  refine (congrArg (fun w => FloatOps.uitofp (F := Ideal) FTy.f32
    (IntOp.andi (IntOp.cmpi CmpIPredicate.eq (spk (ix2 b q)) (spk (ix2 b u))) w)) (sge_small q u)).trans ?_
  have one : (FloatOps.uitofp (F := Ideal) .f32 (1#1) : EReal) = 1 := by
    show ((((1#1 : BitVec 1).toNat : ℕ) : ℝ) : EReal) = 1
    simp
  have zero : (FloatOps.uitofp (F := Ideal) .f32 (0#1) : EReal) = 0 := by
    show ((((0#1 : BitVec 1).toNat : ℕ) : ℝ) : EReal) = 0
    simp
  unfold mask
  by_cases h1 : spk (ix2 b q) = spk (ix2 b u)
  · by_cases h2 : (u : ℕ) ≤ q
    · rw [if_pos ⟨h1, h2⟩]
      simp only [h1, h2, IntOp.cmpi, IntOp.andi, decide_true, beq_self_eq_true]
      exact one
    · rw [if_neg fun h => h2 h.2]
      simp only [h1, h2, IntOp.cmpi, IntOp.andi, decide_false, beq_self_eq_true]
      exact zero
  · rw [if_neg fun h => h1 h.1]
    have hb : (spk (ix2 b q) == spk (ix2 b u)) = false := beq_eq_false_iff_ne.mpr h1
    simp only [hb, IntOp.cmpi, IntOp.andi]
    by_cases h2 : (u : ℕ) ≤ q
    · simp only [h2, decide_true]
      exact zero
    · simp only [h2, decide_false]
      exact zero

/-- The reference's result at an index. -/
theorem ref_at (b : Fin 8) (q : Fin 32) (l : Fin 64) (n : Fin 768) :
    val_main_v29 (F := Ideal) spk tok edu wk wv wq (ix4 b q l n) = refE spk tok edu wk wv wq b q l n := by
  rw [val_main_v29_apply, val_main_v28_apply, val_main_v27_apply, val_main_v26_apply]
  refine congrArg₂ (· + ·) rfl (Finset.sum_congr rfl fun d _ => ?_)
  rw [val_main_v22_apply]
  refine congrArg₂ (· * ·) (Finset.sum_congr rfl fun u _ => congrArg₂ (· * ·) ?_ ?_) ?_
  · refine (congrArg _ ?_).trans (ref_mask spk b q u)
    blk_ext
  · refine (congrArg _ ?_).trans (ref_outer edu wk wv b u ⟨(n : ℕ) / 64, by omega⟩ d ⟨(n : ℕ) % 64, by omega⟩ (headRow n d) n ?_ ?_)
    · blk_ext
    · rfl
    · dsimp only
      omega
  · refine (congrArg _ ?_).trans (ref_query tok wq b q l ⟨(n : ℕ) / 64, by omega⟩ d (headRow n d) rfl)
    blk_ext

end Cert.ReferenceState
-- ==== Proof.Algebra.lean ====
module

public import proofs.«01_k».proof.Proof.Ref

/-! The kernel's grouping and the reference's grouping of the sums agree when every argument is finite. -/

@[expose] public section

noncomputable section

namespace Cert.Equation

open Idealize.ShloMosaic Idealize.ShloMosaic.TcCoe Cert.KernelIdeal
open Cert.KernelState (keyE valE mask headRow kernelE)
open Cert.ReferenceState (refE)

/-- A sum of real numbers is the same number whether summed as reals or as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rearrangement over the reals: the query row against masked outer products, summed over the head, is the masked
score against the values, summed over the units. -/
theorem regroup (t : Fin 768 → ℝ) (w : Fin 64 → Fin 768 → ℝ) (k : Fin 32 → Fin 64 → ℝ) (a v : Fin 32 → ℝ) :
    ∑ u, ((∑ x, t x * ∑ d, w d x * k u d) * a u) * v u
      = ∑ d, (∑ u, a u * (k u d * v u)) * ∑ x, t x * w d x := by
  simp only [Finset.sum_mul, Finset.mul_sum]
  rw [Finset.sum_congr rfl fun u _ => Finset.sum_comm, Finset.sum_comm]
  refine Finset.sum_congr rfl fun d _ => ?_
  rw [Finset.sum_comm]
  refine Finset.sum_congr rfl fun x _ => Finset.sum_congr rfl fun u _ => ?_
  ring

/-- An array all of whose entries are finite is an array of reals. -/
theorem real_of_finite {ι : Type} (x : ι → EReal) (h : ∀ i, x i ≠ ⊤ ∧ x i ≠ ⊥) : ∃ r : ι → ℝ, x = fun i => (r i : EReal) :=
  ⟨fun i => (x i).toReal, funext fun i => (EReal.coe_toReal (h i).1 (h i).2).symm⟩

/-- With finite arguments both groupings give one number. -/
theorem kernel_eq_ref (spk : IVec S8x32 32) (tok : FVec Ideal S8x32x64x768 .f32) (edu : FVec Ideal S8x32x768 .f32)
    (wk wv wq : FVec Ideal S768x768 .f32) (htok : ∀ i, tok i ≠ ⊤ ∧ tok i ≠ ⊥) (hedu : ∀ i, edu i ≠ ⊤ ∧ edu i ≠ ⊥)
    (hwk : ∀ i, wk i ≠ ⊤ ∧ wk i ≠ ⊥) (hwv : ∀ i, wv i ≠ ⊤ ∧ wv i ≠ ⊥) (hwq : ∀ i, wq i ≠ ⊤ ∧ wq i ≠ ⊥)
    (b : Fin 8) (q : Fin 32) (l : Fin 64) (n : Fin 768) :
    kernelE spk tok edu wk wv wq b q l n = refE spk tok edu wk wv wq b q l n := by
  obtain ⟨tok, rfl⟩ := real_of_finite tok htok
  obtain ⟨edu, rfl⟩ := real_of_finite edu hedu
  obtain ⟨wk, rfl⟩ := real_of_finite wk hwk
  obtain ⟨wv, rfl⟩ := real_of_finite wv hwv
  obtain ⟨wq, rfl⟩ := real_of_finite wq hwq
  have hk : ∀ u j, keyE (fun i => (edu i : EReal)) (fun i => (wk i : EReal)) b u j
      = ((∑ x : Fin 768, wk (ix2 j x) * edu (ix3 b u x) : ℝ) : EReal) := fun u j => by
    unfold keyE
    simp only [coe_sum, EReal.coe_mul]
  have hv : ∀ u j, valE (fun i => (edu i : EReal)) (fun i => (wv i : EReal)) b u j
      = ((∑ x : Fin 768, edu (ix3 b u x) * wv (ix2 j x) : ℝ) : EReal) := fun u j => by
    unfold valE
    simp only [coe_sum, EReal.coe_mul]
  have hm : ∀ u, mask spk b q u = ((if spk (ix2 b q) = spk (ix2 b u) ∧ (u : ℕ) ≤ q then 1 else 0 : ℝ) : EReal) :=
    fun u => by
      unfold mask
      split <;> simp
  unfold kernelE refE
  simp only [hk, hv, hm]
  refine congrArg₂ (· + ·) rfl ?_
  simp only [← EReal.coe_mul, ← coe_sum]
  exact congrArg _ (regroup (fun x => tok (ix4 b q l x)) (fun d x => wq (ix2 (headRow n d) x)) _ _ _)

end Cert.Equation
-- ==== Proof.Array.lean ====
module

public import proofs.«01_k».proof.Proof.Block

/-! The launch's result array, and the program's result after the closing reshape. -/

@[expose] public section

set_option maxRecDepth 16384

noncomputable section

namespace Cert.KernelState

open Idealize.ShloMosaic Idealize.ShloMosaic.TcCoe Idealize.SL.Sem Cert.KernelIdeal Cert.KernelIdeal.Gen

variable (m : (ℓ : Loc nD τ sig) → Buf (Elt Ideal) ℓ)

/-- The launch's result array: each batch's units laid one after another. -/
def flatE (c : Dev nD) (j : S8x2048x768.Idx) : EReal :=
  kernelE (spkA m c) (tokA m c) (eduA m c) (wkA m c) (wvA m c) (wqA m c) (j 0)
    ⟨(j 1 : ℕ) / 64, by have : (j 1 : ℕ) < 2048 := (j 1).isLt; omega⟩ ⟨(j 1 : ℕ) % 64, Nat.mod_lt _ (by omega)⟩ (j 2)

/-- The program's result array. -/
def wholeE (c : Dev nD) (j : S8x32x64x768.Idx) : EReal :=
  kernelE (spkA m c) (tokA m c) (eduA m c) (wkA m c) (wvA m c) (wqA m c) (j 0) (j 1) (j 2) (j 3)

/-- Every point writes its own block, and the blocks make up the array. -/
theorem final (c : Dev nD) : (dats m 0 c).arrAt 7 cfg0.N = flatE m c := by
  refine (dats m 0 c).arrAt_eq_of_covers 7 (flatE m c) (by decide +kernel) fun t _ y => ?_
  blk_simp
  rw [after0_7]
  have ht : t.val < 16 := t.isLt
  have y1 : (y 1 : ℕ) < 1024 := (y 1).isLt
  have hy : y = ix3 (0 : Fin 1) (y 1) (y 2) := by
    funext a
    fin_cases a
    · exact Subsingleton.elim (α := Fin 1) _ _
    · rfl
    · rfl
  refine (congrArg _ hy).trans ((out_blk m c t ⟨t.val / 2, by omega⟩ rfl (y 2) (y 1)
    ⟨16 * (t.val % 2) + (y 1 : ℕ) / 64, by omega⟩ rfl ⟨(y 1 : ℕ) % 64, by omega⟩ rfl).trans ?_)
  unfold flatE
  congr 1
  all_goals
    apply Fin.ext
    blk_simp [idx7 t]
    try (dsimp only; omega)

/-- The closing reshape of the launch's result is the program's result. -/
theorem reshaped (c : Dev nD) :
    shapeCast S8x32x64x768 (flatE m c : FVec Ideal S8x2048x768 .f32) shapeCasts_S8x2048x768_S8x32x64x768
      = wholeE m c := by
  funext j
  pointwise [flatE, wholeE]
  have j1 : (j 1 : ℕ) < 32 := (j 1).isLt
  have j2 : (j 2 : ℕ) < 64 := (j 2).isLt
  congr 1
  all_goals
    apply Fin.ext
    dsimp only
    omega

end Cert.KernelState
-- ==== Proof.Run.lean ====
module

public import proofs.«01_k».proof.Proof.Array

/-! The kernel program's run, with the result it ends holding. -/

@[expose] public section

set_option maxRecDepth 16384

noncomputable section

namespace Cert.KernelState

open Idealize.ShloMosaic Idealize.ShloMosaic.TcCoe Idealize.SL.Sem Cert.KernelIdeal Cert.KernelIdeal.Gen

variable (m : (ℓ : Loc nD τ sig) → Buf (Elt Ideal) ℓ)

/-- No two windows share an array. -/
theorem arrays_distinct : Function.Injective (Pipeline.arrRef spec0) := by decide

/-- After the operation that follows the launch, the result buffer holds the program's result. -/
theorem tail_result (c : Dev nD) :
    Pipeline.afterTail₀ cfgs (dats m) 0 (V0 m) [hostOps1] c main_v13 = wholeE m c := by
  refine Eq.trans ?_ (reshaped m c)
  unfold Pipeline.afterTail₀
  show StableHlo.after hostOps1 _ _ = _
  rw [StableHlo.after_cons, StableHlo.after_nil, StableHlo.reshape_result]
  refine congrArg (fun X => shapeCast S8x32x64x768 X shapeCasts_S8x2048x768_S8x32x64x768) ?_
  exact (Pipeline.withArrays_arr spec0 arrays_distinct c (V0 m c) _ 7).trans (final m c)

/-- The kernel program runs, leaves its result at `wholeE` and its arguments as they were. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v13) = wholeE m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => ⟨((h.2 c).2 main_v13 (Pipeline.mem_restRefs_of main_v13 (by decide) (by decide))).trans
    (tail_result m c), h.1 c⟩) (θ_run_and (unchanged m g) (run_main m g))

end Cert.KernelState
-- ==== Proof.Equation.lean ====
module

public import proofs.«01_k».proof.Proof.Pre
public import proofs.«01_k».proof.Proof.Algebra
public import proofs.«01_k».proof.Proof.Run
public import proofs.«01_k».proof.Proof.Gen.ReferenceIdeal.Run
public import Idealize.ShloMosaic.Lib.Claim

/-! The kernel's result and the reference's result are one array. -/

@[expose] public section

set_option maxRecDepth 16384

noncomputable section

namespace Cert.Equation

open Idealize.ShloMosaic Idealize.ShloMosaic.TcCoe Idealize.SL.Sem
open Cert.KernelState (wholeE spkA tokA eduA wkA wvA wqA)

variable [Cert.Pre_finite.Facts]

/-- With finite arguments the reference's result array is the kernel's. -/
theorem ref_whole (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.ReferenceIdeal.Read.val_main_v29 (F := Ideal) (spkA m c) (tokA m c) (eduA m c) (wkA m c) (wvA m c) (wqA m c)
      = wholeE m c := by
  obtain ⟨h2, h3, h4, h5, h6⟩ := Cert.Finite.args_finite m h c
  funext j
  refine (congrArg _ (?_ : j = ix4 (j 0) (j 1) (j 2) (j 3))).trans
    ((Cert.ReferenceState.ref_at _ _ _ _ _ _ (j 0) (j 1) (j 2) (j 3)).trans
      (kernel_eq_ref _ _ _ _ _ _ h2 h3 h4 h5 h6 (j 0) (j 1) (j 2) (j 3)).symm)
  funext a
  fin_cases a <;> rfl

/-- The kernel and the reference, each run with finite arguments, end with one result. -/
theorem algebraic : Cert.algebraic_KernelIdeal_ReferenceIdeal_pre_finite
    (hKernelIdeal := Cert.KernelIdeal.Gen.facts) (hReferenceIdeal := Cert.ReferenceIdeal.Gen.facts) := by
  pair_intro
  · run_from Cert.KernelState.run m g
  · run_from Cert.ReferenceIdeal.Value.run m' g'
    exact ref_whole m hpre _

end Cert.Equation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The shape relations that the precondition's comparisons take hold. -/
theorem finite_facts : Cert.Pre_finite.Facts where
  bcast_S_S8x32x64x768 := by decide
  bcast_S_S8x32x768 := by decide
  bcast_S_S768x768 := by decide

/-- The reference runs and leaves its arguments as they were; it declares no semaphore, so every counter is zero. -/
theorem frame_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Everything that the certificate claims. -/
theorem claim : Cert.Claim :=
  ⟨Cert.Kernel.Gen.facts, Cert.KernelIdeal.Gen.facts, Cert.ReferenceIdeal.Gen.facts, finite_facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    @Cert.Equation.algebraic finite_facts⟩

end Cert.Proof

end
